-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_major [hPre_row_major : Cert.Pre_row_major.Facts] (m : (ℓ : Loc Cert.KernelIdeal.nD Cert.KernelIdeal.τ Cert.KernelIdeal.sig) → Buf (Elt Ideal) ℓ) : Prop :=
  ∀ c : Dev Cert.KernelIdeal.nD,
    (Cert.Pre_row_major.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_major [hPre_row_major : Cert.Pre_row_major.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_major.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_row_major [hKernelIdeal : Cert.KernelIdeal.Facts] [hPre_row_major : Cert.Pre_row_major.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_major m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_row_major [hReferenceIdeal : Cert.ReferenceIdeal.Facts] [hPre_row_major : Cert.Pre_row_major.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_major m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_row_major [hKernelIdeal : Cert.KernelIdeal.Facts] [hReferenceIdeal : Cert.ReferenceIdeal.Facts] [hPre_row_major : Cert.Pre_row_major.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_major m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_row_major : Cert.Pre_row_major.Facts),
    quiescent_Kernel (hKernel := hKernel)
    ∧ quiescent_KernelIdeal (hKernelIdeal := hKernelIdeal)
    ∧ quiescent_KernelIdeal_pre_row_major (hKernelIdeal := hKernelIdeal) (hPre_row_major := hPre_row_major)
    ∧ quiescent_ReferenceIdeal (hReferenceIdeal := hReferenceIdeal)
    ∧ quiescent_ReferenceIdeal_pre_row_major (hReferenceIdeal := hReferenceIdeal) (hPre_row_major := hPre_row_major)
    ∧ preserves_Kernel_KernelIdeal
    ∧ algebraic_KernelIdeal_ReferenceIdeal_pre_row_major (hKernelIdeal := hKernelIdeal) (hReferenceIdeal := hReferenceIdeal) (hPre_row_major := hPre_row_major)
-- ==== Pre_row_major.lean ====
abbrev S2x147456x96 : Shape := ⟨3, ![2, 147456, 96]⟩
abbrev S147456x2 : Shape := ⟨2, ![147456, 2]⟩
abbrev S16x16x96x256 : Shape := ⟨4, ![16, 16, 96, 256]⟩
abbrev S256 : Shape := ⟨1, ![256]⟩
abbrev S147456x1 : Shape := ⟨2, ![147456, 1]⟩
abbrev S147456 : Shape := ⟨1, ![147456]⟩
abbrev S147455 : Shape := ⟨1, ![147455]⟩
abbrev S_ : Shape := ⟨0, ![]⟩

class Facts : Prop where
  slices_S147456x2_S147456x1_0_0 : S147456x2.Slices ![0, 0] S147456x1
  shapeCasts_S147456x1_S147456 : S147456x1.ShapeCasts S147456
  slices_S147456x2_S147456x1_0_1 : S147456x2.Slices ![0, 1] S147456x1
  slices_S147456_S147455_0 : S147456.Slices ![0] S147455
  slices_S147456_S147455_1 : S147456.Slices ![1] S147455
  reducesTo_S147455_S_d0 : S147455.ReducesTo [0] S_
  h_S_ : 0 < S_.numel

variable [Facts]

def fn {F : FTy → Type} [FloatOps F] (main_arg0 : FVec F S2x147456x96 .f32) (main_arg1 : FVec F S147456x2 .f32) (main_arg2 : FVec F S16x16x96x256 .f32) (main_arg3 : FVec F S256 .f32) : IVec S_ 1 :=
  let main_v0 : FVec F S147456x1 .f32 := (extractStridedSlice S147456x1 ![0, 0] · slices_S147456x2_S147456x1_0_0) main_arg1
  let main_v1 : FVec F S147456 .f32 := shapeCast S147456 main_v0 shapeCasts_S147456x1_S147456
  let main_v2 : FVec F S147456x1 .f32 := (extractStridedSlice S147456x1 ![0, 1] · slices_S147456x2_S147456x1_0_1) main_arg1
  let main_v3 : FVec F S147456 .f32 := shapeCast S147456 main_v2 shapeCasts_S147456x1_S147456
  let main_v4 : FVec F S147455 .f32 := (extractStridedSlice S147455 ![0] · slices_S147456_S147455_0) main_v3
  let main_v5 : FVec F S147455 .f32 := (extractStridedSlice S147455 ![1] · slices_S147456_S147455_1) main_v3
  let main_v6 : IVec S147455 1 := cmpf .olt main_v4 main_v5
  let main_v7 : FVec F S147455 .f32 := (extractStridedSlice S147455 ![0] · slices_S147456_S147455_0) main_v3
  let main_v8 : FVec F S147455 .f32 := (extractStridedSlice S147455 ![1] · slices_S147456_S147455_1) main_v3
  let main_v9 : IVec S147455 1 := cmpf .oeq main_v7 main_v8
  let main_v10 : FVec F S147455 .f32 := (extractStridedSlice S147455 ![0] · slices_S147456_S147455_0) main_v1
  let main_v11 : FVec F S147455 .f32 := (extractStridedSlice S147455 ![1] · slices_S147456_S147455_1) main_v1
  let main_v12 : IVec S147455 1 := cmpf .ole main_v10 main_v11
  let main_v13 : IVec S147455 1 := andi main_v9 main_v12
  let main_v14 : IVec S147455 1 := ori main_v6 main_v13
  let main_c : IVec S_ 1 := constantI S_ 1 1#1
  let main_v15 : IVec S_ 1 := (fun x v => Host.reduce IntOp.andi x v reducesTo_S147455_S_d0 h_S_) main_v14 main_c
  main_v15
-- ==== Kernel.lean ====
abbrev S2x147456x96 : Shape := ⟨3, ![2, 147456, 96]⟩
abbrev S147456x2 : Shape := ⟨2, ![147456, 2]⟩
abbrev S16x16x96x256 : Shape := ⟨4, ![16, 16, 96, 256]⟩
abbrev S256 : Shape := ⟨1, ![256]⟩
abbrev S2x96x147456 : Shape := ⟨3, ![2, 96, 147456]⟩
abbrev S16x1536x256 : Shape := ⟨3, ![16, 1536, 256]⟩
abbrev S1x256 : Shape := ⟨2, ![1, 256]⟩
abbrev S24 : Shape := ⟨1, ![24]⟩
abbrev S24x24 : Shape := ⟨2, ![24, 24]⟩
abbrev S576 : Shape := ⟨1, ![576]⟩
abbrev S64 : Shape := ⟨1, ![64]⟩
abbrev S_ : Shape := ⟨0, ![]⟩
abbrev S576x1 : Shape := ⟨2, ![576, 1]⟩
abbrev S1x64 : Shape := ⟨2, ![1, 64]⟩
abbrev S576x64 : Shape := ⟨2, ![576, 64]⟩
abbrev S576x128 : Shape := ⟨2, ![576, 128]⟩
abbrev S576x256 : Shape := ⟨2, ![576, 256]⟩
abbrev S24x24x256 : Shape := ⟨3, ![24, 24, 256]⟩
abbrev S2x576x256 : Shape := ⟨3, ![2, 576, 256]⟩
abbrev S1x96x12288 : Shape := ⟨3, ![1, 96, 12288]⟩
abbrev S2x24x256 : Shape := ⟨3, ![2, 24, 256]⟩
abbrev S1x48x256 : Shape := ⟨3, ![1, 48, 256]⟩
abbrev S1x24x256 : Shape := ⟨3, ![1, 24, 256]⟩
abbrev S24x256 : Shape := ⟨2, ![24, 256]⟩
abbrev S1x96x384 : Shape := ⟨3, ![1, 96, 384]⟩
abbrev S96x384 : Shape := ⟨2, ![96, 384]⟩
abbrev S384x96 : Shape := ⟨2, ![384, 96]⟩
abbrev S16x96 : Shape := ⟨2, ![16, 96]⟩
abbrev S1x16x96 : Shape := ⟨3, ![1, 16, 96]⟩
abbrev S24x16x96 : Shape := ⟨3, ![24, 16, 96]⟩
abbrev S24x1536 : Shape := ⟨2, ![24, 1536]⟩
abbrev S1x1536x256 : Shape := ⟨3, ![1, 1536, 256]⟩
abbrev S1536x256 : Shape := ⟨2, ![1536, 256]⟩

abbrev nBuf : Space → Nat
  | .hbm => 54
  | .vmem => 7
  | .smem => 0
  | _ => 0

abbrev bufTy : (tb : Table) → Fin (tcTables nBuf tb) → BufTy
  | .hbm, ⟨0, _⟩ => ⟨S2x147456x96, .f32⟩
  | .hbm, ⟨1, _⟩ => ⟨S147456x2, .f32⟩
  | .hbm, ⟨2, _⟩ => ⟨S16x16x96x256, .f32⟩
  | .hbm, ⟨3, _⟩ => ⟨S256, .f32⟩
  | .hbm, ⟨4, _⟩ => ⟨S2x96x147456, .f32⟩
  | .hbm, ⟨5, _⟩ => ⟨S16x1536x256, .f32⟩
  | .hbm, ⟨6, _⟩ => ⟨S1x256, .f32⟩
  | .hbm, ⟨7, _⟩ => ⟨S24, .f32⟩
  | .hbm, ⟨8, _⟩ => ⟨S24, .f32⟩
  | .hbm, ⟨9, _⟩ => ⟨S24x24, .f32⟩
  | .hbm, ⟨10, _⟩ => ⟨S24x24, .f32⟩
  | .hbm, ⟨11, _⟩ => ⟨S576, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S576x1, .f32⟩
  | .hbm, ⟨23, _⟩ => ⟨S1x64, .f32⟩
  | .hbm, ⟨24, _⟩ => ⟨S576x64, .f32⟩
  | .hbm, ⟨25, _⟩ => ⟨S576x64, .f32⟩
  | .hbm, ⟨26, _⟩ => ⟨S576x64, .f32⟩
  | .hbm, ⟨27, _⟩ => ⟨S576x64, .f32⟩
  | .hbm, ⟨28, _⟩ => ⟨S576x64, .f32⟩
  | .hbm, ⟨29, _⟩ => ⟨S576x128, .f32⟩
  | .hbm, ⟨30, _⟩ => ⟨S576, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S576x1, .f32⟩
  | .hbm, ⟨42, _⟩ => ⟨S1x64, .f32⟩
  | .hbm, ⟨43, _⟩ => ⟨S576x64, .f32⟩
  | .hbm, ⟨44, _⟩ => ⟨S576x64, .f32⟩
  | .hbm, ⟨45, _⟩ => ⟨S576x64, .f32⟩
  | .hbm, ⟨46, _⟩ => ⟨S576x64, .f32⟩
  | .hbm, ⟨47, _⟩ => ⟨S576x64, .f32⟩
  | .hbm, ⟨48, _⟩ => ⟨S576x128, .f32⟩
  | .hbm, ⟨49, _⟩ => ⟨S576x256, .f32⟩
  | .hbm, ⟨50, _⟩ => ⟨S576x256, .f32⟩
  | .hbm, ⟨51, _⟩ => ⟨S576x256, .f32⟩
  | .hbm, ⟨52, _⟩ => ⟨S24x24x256, .f32⟩
  | .hbm, ⟨53, _⟩ => ⟨S2x576x256, .f32⟩
  | .local _ .vmem, ⟨0, _⟩ => ⟨S1x96x12288, .f32⟩
  | .local _ .vmem, ⟨1, _⟩ => ⟨S1x96x12288, .f32⟩
  | .local _ .vmem, ⟨2, _⟩ => ⟨S16x1536x256, .f32⟩
  | .local _ .vmem, ⟨3, _⟩ => ⟨S2x24x256, .f32⟩
  | .local _ .vmem, ⟨4, _⟩ => ⟨S2x24x256, .f32⟩
  | .local _ .vmem, ⟨5, _⟩ => ⟨S1x48x256, .f32⟩
  | .local _ .vmem, ⟨6, _⟩ => ⟨S1x48x256, .f32⟩
  | _, _ => ⟨S2x147456x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x96x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1536x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x24x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x48x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x147456x96 : Shape := ⟨3, ![2, 147456, 96]⟩
abbrev S147456x2 : Shape := ⟨2, ![147456, 2]⟩
abbrev S16x16x96x256 : Shape := ⟨4, ![16, 16, 96, 256]⟩
abbrev S256 : Shape := ⟨1, ![256]⟩
abbrev S147456x1 : Shape := ⟨2, ![147456, 1]⟩
abbrev S147456 : Shape := ⟨1, ![147456]⟩
abbrev S_ : Shape := ⟨0, ![]⟩
abbrev S2x384x384x96 : Shape := ⟨4, ![2, 384, 384, 96]⟩
abbrev S2x24x16x24x16x96 : Shape := ⟨6, ![2, 24, 16, 24, 16, 96]⟩
abbrev S2x24x24x256 : Shape := ⟨4, ![2, 24, 24, 256]⟩
abbrev S1x1x1x256 : Shape := ⟨4, ![1, 1, 1, 256]⟩
abbrev S2x576x256 : Shape := ⟨3, ![2, 576, 256]⟩
abbrev S24 : Shape := ⟨1, ![24]⟩
abbrev S24x24 : Shape := ⟨2, ![24, 24]⟩
abbrev S576 : Shape := ⟨1, ![576]⟩
abbrev S64 : Shape := ⟨1, ![64]⟩
abbrev S576x1 : Shape := ⟨2, ![576, 1]⟩
abbrev S1x64 : Shape := ⟨2, ![1, 64]⟩
abbrev S576x64 : Shape := ⟨2, ![576, 64]⟩
abbrev S576x128 : Shape := ⟨2, ![576, 128]⟩
abbrev S576x256 : Shape := ⟨2, ![576, 256]⟩
abbrev S1x576x256 : Shape := ⟨3, ![1, 576, 256]⟩

abbrev nBuf : Space → Nat
  | .hbm => 74
  | .vmem => 0
  | .smem => 0
  | _ => 0

abbrev bufTy : (tb : Table) → Fin (tcTables nBuf tb) → BufTy
  | .hbm, ⟨0, _⟩ => ⟨S2x147456x96, .f32⟩
  | .hbm, ⟨1, _⟩ => ⟨S147456x2, .f32⟩
  | .hbm, ⟨2, _⟩ => ⟨S16x16x96x256, .f32⟩
  | .hbm, ⟨3, _⟩ => ⟨S256, .f32⟩
  | .hbm, ⟨4, _⟩ => ⟨S147456x1, .f32⟩
  | .hbm, ⟨5, _⟩ => ⟨S147456, .f32⟩
  | .hbm, ⟨6, _⟩ => ⟨S147456x1, .f32⟩
  | .hbm, ⟨7, _⟩ => ⟨S147456, .f32⟩
  | .hbm, ⟨8, _⟩ => ⟨S147456, .i32⟩
  | .hbm, ⟨9, _⟩ => ⟨S147456, .f32⟩
  | .hbm, ⟨10, _⟩ => ⟨S147456, .f32⟩
  | .hbm, ⟨11, _⟩ => ⟨S147456, .i32⟩
  | .hbm, ⟨12, _⟩ => ⟨S_, .i32⟩
  | .hbm, ⟨13, _⟩ => ⟨S147456, .i32⟩
  | .hbm, ⟨14, _⟩ => ⟨S147456, .i1⟩
  | .hbm, ⟨15, _⟩ => ⟨S_, .i32⟩
  | .hbm, ⟨16, _⟩ => ⟨S147456, .i32⟩
  | .hbm, ⟨17, _⟩ => ⟨S147456, .i32⟩
  | .hbm, ⟨18, _⟩ => ⟨S147456, .i32⟩
  | .hbm, ⟨19, _⟩ => ⟨S147456x1, .i32⟩
  | .hbm, ⟨20, _⟩ => ⟨S2x147456x96, .f32⟩
  | .hbm, ⟨21, _⟩ => ⟨S2x384x384x96, .f32⟩
  | .hbm, ⟨22, _⟩ => ⟨S2x24x16x24x16x96, .f32⟩
  | .hbm, ⟨23, _⟩ => ⟨S2x24x24x256, .f32⟩
  | .hbm, ⟨24, _⟩ => ⟨S1x1x1x256, .f32⟩
  | .hbm, ⟨25, _⟩ => ⟨S2x24x24x256, .f32⟩
  | .hbm, ⟨26, _⟩ => ⟨S2x24x24x256, .f32⟩
  | .hbm, ⟨27, _⟩ => ⟨S2x576x256, .f32⟩
  | .hbm, ⟨28, _⟩ => ⟨S24, .f32⟩
  | .hbm, ⟨29, _⟩ => ⟨S24, .f32⟩
  | .hbm, ⟨30, _⟩ => ⟨S24x24, .f32⟩
  | .hbm, ⟨31, _⟩ => ⟨S24x24, .f32⟩
  | .hbm, ⟨32, _⟩ => ⟨S576, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S576x1, .f32⟩
  | .hbm, ⟨44, _⟩ => ⟨S1x64, .f32⟩
  | .hbm, ⟨45, _⟩ => ⟨S576x64, .f32⟩
  | .hbm, ⟨46, _⟩ => ⟨S576x64, .f32⟩
  | .hbm, ⟨47, _⟩ => ⟨S576x64, .f32⟩
  | .hbm, ⟨48, _⟩ => ⟨S576x64, .f32⟩
  | .hbm, ⟨49, _⟩ => ⟨S576x64, .f32⟩
  | .hbm, ⟨50, _⟩ => ⟨S576x128, .f32⟩
  | .hbm, ⟨51, _⟩ => ⟨S576, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S576x1, .f32⟩
  | .hbm, ⟨63, _⟩ => ⟨S1x64, .f32⟩
  | .hbm, ⟨64, _⟩ => ⟨S576x64, .f32⟩
  | .hbm, ⟨65, _⟩ => ⟨S576x64, .f32⟩
  | .hbm, ⟨66, _⟩ => ⟨S576x64, .f32⟩
  | .hbm, ⟨67, _⟩ => ⟨S576x64, .f32⟩
  | .hbm, ⟨68, _⟩ => ⟨S576x64, .f32⟩
  | .hbm, ⟨69, _⟩ => ⟨S576x128, .f32⟩
  | .hbm, ⟨70, _⟩ => ⟨S576x256, .f32⟩
  | .hbm, ⟨71, _⟩ => ⟨S1x576x256, .f32⟩
  | .hbm, ⟨72, _⟩ => ⟨S2x576x256, .f32⟩
  | .hbm, ⟨73, _⟩ => ⟨S2x576x256, .f32⟩
  | _, _ => ⟨S2x147456x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1_0 : Ref sig .tc := ⟨.hbm, 9, rfl⟩
abbrev main_call0_v1_1 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Proof.Sorted.lean ====
module

public import proofs.«01_k».proof.Proof.Gen.ReferenceIdeal
public import Idealize.ShloMosaic.Lib.Pointwise
public import Idealize.ShloMosaic.Lib.SortFacts

@[expose] public section

set_option maxRecDepth 16384

noncomputable section

namespace Cert.ReferenceIdeal.Sorted

open Idealize.ShloMosaic Idealize.ShloMosaic.TcCoe Idealize.SL.Sem
open Cert.ReferenceIdeal Cert.ReferenceIdeal.Gen

/-- A stable sort leaves a list in which no later element goes before an earlier one as it is. -/
theorem stableSort_ordered {ι : Type} (before : ι → ι → Bool) :
    ∀ l : List ι, l.Pairwise (fun a b => before b a = false) → stableSort before l = l
  | [], _ => rfl
  | a :: l, h => by
    obtain ⟨ha, hl⟩ := List.pairwise_cons.1 h
    rw [stableSort, stableSort_ordered before l hl]
    cases l with
    | nil => rfl
    | cons b l => simp [insertBefore, ha b List.mem_cons_self]

/-- If no later position goes before an earlier one, the sort reads every position from itself. -/
theorem sortedFrom_ordered {n : Nat} (before : Fin n → Fin n → Bool)
    (h : ∀ i j : Fin n, i < j → before j i = false) (k : Fin n) : sortedFrom before k = k := by
  have e : sortPositions n before = List.finRange n :=
    stableSort_ordered before _ ((List.pairwise_lt_finRange n).imp fun {a b} hab => h a b hab)
  unfold sortedFrom
  simp [e]

/-- Over the extended reals the comparator is the lexicographic order of the two keys: replacing zeros by zero and
    undefined values by one value changes nothing there. -/
theorem comparator_eq_one (l r : EReal × EReal × BitVec 32)
    (h : comparator_f32_f32_i32_d0 (F := Ideal) l r = 1#1) : l.1 < r.1 ∨ (l.1 = r.1 ∧ l.2.1 < r.2.1) := by
  have canon : ∀ a : EReal,
      Scalar.select (FloatOps.cmpf (F := Ideal) (φ := .f32) .une a a) (FloatOps.ofBits (F := Ideal) .f32 0x7FC00000#32)
        (Scalar.select (FloatOps.cmpf (F := Ideal) (φ := .f32) .oeq a (FloatOps.ofBits (F := Ideal) .f32 0x00000000#32))
          (FloatOps.ofBits (F := Ideal) .f32 0x00000000#32) a) = a := by
    intro a
    have hz : FloatOps.ofBits (F := Ideal) .f32 0x00000000#32 = (0 : EReal) := Ideal.ofBits_zero_f32
    simp only [Ideal.cmpf_def, Ideal.cmp, Scalar.select, hz]
    by_cases ha : a = 0
    · simp [ha]
    · simp [ha]
  unfold comparator_f32_f32_i32_d0 at h
  simp only [canon, Ideal.cmpfTotal_def] at h
  by_contra hn
  push Not at hn
  obtain ⟨h1, h2⟩ := hn
  by_cases e : l.1 = r.1
  · have h3 := h2 e
    simp [Ideal.cmp, CmpDirection.ordered, e, h3, not_lt.2 h3, IntOp.ori, IntOp.andi] at h
  · simp [Ideal.cmp, CmpDirection.ordered, e, not_lt.2 h1, IntOp.ori, IntOp.andi] at h

/-- Pairs in ascending lexicographic order from each position to the next: the second key never goes before. -/
theorem lex_of_step {n : Nat} (y x : Fin (n + 1) → EReal)
    (h : ∀ i : Fin n, y i.castSucc < y i.succ ∨ (y i.castSucc = y i.succ ∧ x i.castSucc ≤ x i.succ))
    (i j : Fin (n + 1)) (hij : i ≤ j) : y i < y j ∨ (y i = y j ∧ x i ≤ x j) := by
  have hm : Monotone fun i : Fin (n + 1) => toLex (y i, x i) :=
    Fin.monotone_iff_le_succ.2 fun i => Prod.Lex.le_iff.2 (h i)
  exact Prod.Lex.le_iff.1 (hm hij)

/-- The order of the points: the positions carried along by the sort of their two keys. -/
def order (y x : FVec Ideal S147456 .f32) : IVec S147456 32 :=
  (Host.sort3 S147456 0 (comparator_f32_f32_i32_d0 (F := Ideal)) y x (iotaInDim S147456 32 0)).2.2

/-- Points already in ascending lexicographic order of their keys are carried nowhere. -/
theorem order_ordered (y x : FVec Ideal S147456 .f32)
    (h : ∀ i j : Fin 147456, i < j → y (ix1 i) < y (ix1 j) ∨ (y (ix1 i) = y (ix1 j) ∧ x (ix1 i) ≤ x (ix1 j))) :
    order y x = iotaInDim S147456 32 0 := by
  unfold order
  rw [Host.sort3_eq_sortBy]
  funext j
  have hd : 0 < S147456.rank := by decide
  simp only [Host.sortBy, dif_pos hd]
  rw [sortedFrom_ordered]
  · exact congrArg _ ((Shape.Idx.along_rank1 j (j 0)).trans (Shape.Idx.eq_ofFin j).symm)
  · intro a b hab
    have hix : ∀ k : Fin 147456, j.along (⟨0, hd⟩ : Fin S147456.rank) k = ix1 k := fun k =>
      (Shape.Idx.along_rank1 j k).trans (by funext a; obtain rfl : a = 0 := Subsingleton.elim _ _; rfl)
    refine beq_eq_false_iff_ne.2 fun hc => ?_
    have hl : y (ix1 b) < y (ix1 a) ∨ (y (ix1 b) = y (ix1 a) ∧ x (ix1 b) < x (ix1 a)) := by
      rw [← hix a, ← hix b]
      exact comparator_eq_one _ _ hc
    rcases h a b hab with h1 | ⟨h1, h2⟩ <;> rcases hl with h3 | ⟨h3, h4⟩
    · exact absurd h3 (not_lt.2 h1.le)
    · exact h1.ne h3.symm
    · exact absurd h3 (not_lt.2 h1.le)
    · exact absurd h4 (not_lt.2 h2)

end Cert.ReferenceIdeal.Sorted

end
-- ==== Proof.Taken.lean ====
module

public import proofs.«01_k».proof.Proof.Sorted

@[expose] public section

set_option maxRecDepth 16384

noncomputable section

namespace Cert.ReferenceIdeal.Sorted

open Idealize.ShloMosaic Idealize.ShloMosaic.TcCoe Idealize.SL.Sem
open Cert.ReferenceIdeal Cert.ReferenceIdeal.Gen

/-- The column of positions the images are read at: a negative position counts from the end. -/
def column (o : IVec S147456 32) : IVec S147456x1 32 :=
  broadcastInDim S147456x1 ![0] bcast_S147456_S147456x1_0
    (select (cmpi .slt o (broadcastInDim S147456 ![] bcast_S_S147456 (constantI S_ 32 0#32)))
      (addi o (broadcastInDim S147456 ![] bcast_S_S147456 (constantI S_ 32 147456#32))) o)

/-- A position below 147456 is read as itself. -/
theorem word_at (n : Nat) (h : n < 147456) : (BitVec.ofNat 32 n).toInt = n := by
  rw [BitVec.toInt_eq_toNat_cond, BitVec.toNat_ofNat, Nat.mod_eq_of_lt (by omega), if_pos (by omega)]

/-- The column of the positions in turn holds each position. -/
theorem column_iota (n : Fin 147456) : (column (iotaInDim S147456 32 0) (ix2 n (0 : Fin 1))).toInt = n.val := by
  have hw := word_at n.val n.isLt
  have hs : (BitVec.ofNat 32 n.val).slt 0#32 = false := by
    rw [BitVec.slt, hw]; simp
  pointwise [column]
  simp only [IntOp.cmpi, hs, Scalar.select]
  exact hw

/-- The slice starts at zero along an axis that the start indices do not name. -/
theorem start_zero (j : S2x147456x96.Idx) (col : IVec S147456x1 32) (a : Fin 3) (ha : a ∉ [(1 : Fin 3)]) :
    gather_S2x147456x96_S147456x1_S2x147456x96_02_1_n_n_1_1_2196.start j col a = 0 := by
  unfold GatherDims.start
  exact dif_neg fun h => ha h

/-- Reading the images at the column: each point's channels are those of the point its position names. -/
theorem gather_at (X : FVec Ideal S2x147456x96 .f32) (col : IVec S147456x1 32) (b : Fin 2) (n : Fin 147456) (c : Fin 96) :
    Host.gather gather_S2x147456x96_S147456x1_S2x147456x96_02_1_n_n_1_1_2196 X col (ix3 b n c)
      = X (ix3 b ⟨min (col (ix2 n (0 : Fin 1))).toInt.toNat 147455, by omega⟩ c) := by
  unfold Host.gather
  refine congrArg X (funext fun a => Fin.ext ?_)
  show GatherDims.start _ _ col a + GatherDims.batchCoord _ _ a + GatherDims.offCoord _ _ a = _
  rw [GatherDims.batchCoord_eq_zero _ _ _ (show a ∉ [] from List.not_mem_nil), Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [start_zero _ _ _ (by decide), Nat.zero_add]
    unfold GatherDims.offCoord
    exact dif_pos ((GatherDims.mem_sKept _ _).2 ⟨show (0 : Fin 3) ∉ [(1 : Fin 3)] by decide, List.not_mem_nil⟩)
  · rw [GatherDims.offCoord_eq_zero _ _ _ (fun h => ((GatherDims.mem_sKept _ _).1 h).1 (List.mem_singleton.2 rfl)), Nat.add_zero]
    unfold GatherDims.start
    refine (dif_pos (show (1 : Fin 3) ∈ [(1 : Fin 3)] from List.mem_singleton.2 rfl)).trans ?_
    refine congrArg (fun q => min (col q).toInt.toNat 147455) (funext fun k => Fin.ext ?_)
    match k with
    | ⟨0, _⟩ => rfl
    | ⟨1, _⟩ => rfl
  · rw [start_zero _ _ _ (by decide), Nat.zero_add]
    unfold GatherDims.offCoord
    exact dif_pos ((GatherDims.mem_sKept _ _).2 ⟨show (2 : Fin 3) ∉ [(1 : Fin 3)] by decide, List.not_mem_nil⟩)

/-- Read at the positions in turn, the images come back as they are. -/
theorem gather_iota (X : FVec Ideal S2x147456x96 .f32) :
    Host.gather gather_S2x147456x96_S147456x1_S2x147456x96_02_1_n_n_1_1_2196 X (column (iotaInDim S147456 32 0)) = X := by
  funext i
  idx_vars i
  rw [gather_at]
  refine congrArg (fun k => X (ix3 i0 k i2)) (Fin.ext ?_)
  show min (column (iotaInDim S147456 32 0) (ix2 i1 (0 : Fin 1))).toInt.toNat 147455 = i1.val
  rw [column_iota]
  omega

end Cert.ReferenceIdeal.Sorted

end
-- ==== Proof.Patches.lean ====
module

public import proofs.«01_k».proof.Proof.Taken

@[expose] public section

set_option maxRecDepth 16384

noncomputable section

namespace Cert.ReferenceIdeal.Sorted

open Idealize.ShloMosaic Idealize.ShloMosaic.TcCoe Idealize.SL.Sem
open Cert.ReferenceIdeal Cert.ReferenceIdeal.Gen

/-- The reference's contraction over a patch: its rows, its columns and the channels. -/
abbrev patchDot : DotDims S2x24x16x24x16x96 S16x16x96x256 S2x24x24x256 :=
  dot_S2x24x16x24x16x96_S16x16x96x256_S2x24x24x256_524_201_013_3_n_n

/-- An index of that contraction is a row, a column and a channel. -/
def patchIdx : Fin 16 × Fin 16 × Fin 96 ≃ patchDot.contr.Idx where
  toFun p := fun a => match a with
    | ⟨0, _⟩ => p.2.2
    | ⟨1, _⟩ => p.1
    | ⟨2, _⟩ => p.2.1
  invFun q := (q (⟨1, by decide⟩ : Fin 3), q (⟨2, by decide⟩ : Fin 3), q (⟨0, by decide⟩ : Fin 3))
  left_inv p := rfl
  right_inv q := by
    funext a
    match a with
    | ⟨0, _⟩ => rfl
    | ⟨1, _⟩ => rfl
    | ⟨2, _⟩ => rfl

/-- The contraction at an entry. -/
theorem dot_at (L : FVec Ideal S2x24x16x24x16x96 .f32) (W : FVec Ideal S16x16x96x256 .f32)
    (b : Fin 2) (y x : Fin 24) (e : Fin 256) :
    Host.dotGeneral patchDot none L W (ix4 b y x e)
      = ∑ r : Fin 16, ∑ s : Fin 16, ∑ c : Fin 96, L (ix6 b y r x s c) * W (ix4 r s c e) := by
  show FloatOps.dotGeneral _ _ _ L W (ix4 b y x e) = _
  rw [Ideal.dotGeneral_apply, ← Equiv.sum_comp patchIdx, Fintype.sum_prod_type]
  refine Finset.sum_congr rfl fun r _ => ?_
  rw [Fintype.sum_prod_type]
  refine Finset.sum_congr rfl fun s _ => Finset.sum_congr rfl fun c _ => ?_
  refine congrArg₂ (· * ·) (congrArg L ?_) (congrArg W ?_)
  · funext a; apply Fin.ext
    match a with
    | ⟨0, _⟩ => rfl
    | ⟨1, _⟩ => rfl
    | ⟨2, _⟩ => rfl
    | ⟨3, _⟩ => rfl
    | ⟨4, _⟩ => rfl
    | ⟨5, _⟩ => rfl
  · funext a; apply Fin.ext
    match a with
    | ⟨0, _⟩ => rfl
    | ⟨1, _⟩ => rfl
    | ⟨2, _⟩ => rfl
    | ⟨3, _⟩ => rfl

/-- The images cut into patches, at an entry. -/
theorem cut_at (X : FVec Ideal S2x147456x96 .f32) (b : Fin 2) (y : Fin 24) (r : Fin 16) (x : Fin 24) (s : Fin 16) (c : Fin 96) :
    shapeCast S2x24x16x24x16x96 (shapeCast S2x384x384x96 X shapeCasts_S2x147456x96_S2x384x384x96)
        shapeCasts_S2x384x384x96_S2x24x16x24x16x96 (ix6 b y r x s c)
      = X (ix3 b ⟨6144 * y.val + 384 * r.val + (16 * x.val + s.val), by omega⟩ c) := by
  pointwise
  exact congrArg (fun n => X (ix3 b n c)) (Fin.ext (by
    show y.val * 6144 + r.val * 384 + x.val * 16 + s.val = 6144 * y.val + 384 * r.val + (16 * x.val + s.val)
    omega))

/-- The convolution of the images with the filter, plus bias, plus a position table. -/
def embed (X : FVec Ideal S2x147456x96 .f32) (W : FVec Ideal S16x16x96x256 .f32) (B : FVec Ideal S256 .f32)
    (P : FVec Ideal S576x256 .f32) : FVec Ideal S2x576x256 .f32 :=
  addf (shapeCast S2x576x256
      (addf (Host.dotGeneral patchDot none
          (shapeCast S2x24x16x24x16x96 (shapeCast S2x384x384x96 X shapeCasts_S2x147456x96_S2x384x384x96)
            shapeCasts_S2x384x384x96_S2x24x16x24x16x96) W)
        (broadcastInDim S2x24x24x256 ![0, 1, 2, 3] bcast_S1x1x1x256_S2x24x24x256_0_1_2_3
          (broadcastInDim S1x1x1x256 ![3] bcast_S256_S1x1x1x256_3 B)))
      shapeCasts_S2x24x24x256_S2x576x256)
    (broadcastInDim S2x576x256 ![0, 1, 2] bcast_S1x576x256_S2x576x256_0_1_2
      (broadcastInDim S1x576x256 ![1, 2] bcast_S576x256_S1x576x256_1_2 P))

/-- A table with its leading axis cut in two, at an entry. -/
theorem merge_at (L : FVec Ideal S2x24x24x256 .f32) (b : Fin 2) (y : Fin 576) (e : Fin 256) :
    shapeCast S2x576x256 L shapeCasts_S2x24x24x256_S2x576x256 (ix3 b y e)
      = L (ix4 b ⟨y.val / 24, by omega⟩ ⟨y.val % 24, by omega⟩ e) := by
  pointwise

/-- The bias over the patches, at an entry. -/
theorem bias_at (B : FVec Ideal S256 .f32) (b : Fin 2) (y x : Fin 24) (e : Fin 256) :
    broadcastInDim S2x24x24x256 ![0, 1, 2, 3] bcast_S1x1x1x256_S2x24x24x256_0_1_2_3
        (broadcastInDim S1x1x1x256 ![3] bcast_S256_S1x1x1x256_3 B) (ix4 b y x e) = B (ix1 e) := by
  pointwise

/-- The position table over the images, at an entry. -/
theorem table_at (P : FVec Ideal S576x256 .f32) (b : Fin 2) (y : Fin 576) (e : Fin 256) :
    broadcastInDim S2x576x256 ![0, 1, 2] bcast_S1x576x256_S2x576x256_0_1_2
        (broadcastInDim S1x576x256 ![1, 2] bcast_S576x256_S1x576x256_1_2 P) (ix3 b y e) = P (ix2 y e) := by
  pointwise

/-- The reference's result at an entry, its sum over columns and channels taken as one sum. -/
theorem embed_at (X : FVec Ideal S2x147456x96 .f32) (W : FVec Ideal S16x16x96x256 .f32) (B : FVec Ideal S256 .f32)
    (P : FVec Ideal S576x256 .f32) (b : Fin 2) (y : Fin 576) (e : Fin 256) :
    embed X W B P (ix3 b y e)
      = (B (ix1 e) + P (ix2 y e)) + ∑ r : Fin 16, ∑ k : Fin 1536,
          X (ix3 b ⟨6144 * (y.val / 24) + 384 * r.val + (16 * (y.val % 24) + k.val / 96), by omega⟩ ⟨k.val % 96, by omega⟩)
            * W (ix4 r ⟨k.val / 96, by omega⟩ ⟨k.val % 96, by omega⟩ e) := by
  show shapeCast S2x576x256 _ _ (ix3 b y e) + _ = _
  rw [merge_at, table_at]
  show (Host.dotGeneral patchDot none _ W _ + _) + _ = _
  rw [bias_at, dot_at, add_assoc, add_comm]
  refine congrArg _ (Finset.sum_congr rfl fun r _ => ?_)
  rw [Fin.sum_univ_tiles 16 96 rfl]
  refine Finset.sum_congr rfl fun s _ => Finset.sum_congr rfl fun c _ => ?_
  rw [cut_at]
  have h1 : (s.val * 96 + c.val) / 96 = s.val := by omega
  have h2 : (s.val * 96 + c.val) % 96 = c.val := by omega
  simp only [h1, h2]

end Cert.ReferenceIdeal.Sorted

end
-- ==== Proof.RowMajor.lean ====
module

public import proofs.«01_k».proof.Pre_row_major
public import proofs.«01_k».proof.Proof.Sorted
public import Idealize.ShloMosaic.Lib.ReduceAll

@[expose] public section

set_option maxRecDepth 16384

noncomputable section

namespace Cert.ReferenceIdeal.Sorted

open Idealize.ShloMosaic Idealize.ShloMosaic.TcCoe Idealize.SL.Sem
open Cert.ReferenceIdeal Cert.ReferenceIdeal.Gen

/-- The shape relations that the printed precondition states hold. -/
theorem preFacts : Cert.Pre_row_major.Facts where
  slices_S147456x2_S147456x1_0_0 := by decide
  shapeCasts_S147456x1_S147456 := by decide
  slices_S147456x2_S147456x1_0_1 := by decide
  slices_S147456_S147455_0 := by decide
  slices_S147456_S147455_1 := by decide
  reducesTo_S147455_S_d0 := by decide
  h_S_ := by decide

/-- The points' vertical coordinates, the first key of the order. -/
def vertical (p : FVec Ideal S147456x2 .f32) : FVec Ideal S147456 .f32 :=
  shapeCast S147456 (extractStridedSlice S147456x1 ![0, 1] p slices_S147456x2_S147456x1_0_1) shapeCasts_S147456x1_S147456

/-- The points' horizontal coordinates, the second key of the order. -/
def horizontal (p : FVec Ideal S147456x2 .f32) : FVec Ideal S147456 .f32 :=
  shapeCast S147456 (extractStridedSlice S147456x1 ![0, 0] p slices_S147456x2_S147456x1_0_0) shapeCasts_S147456x1_S147456

/-- A point's vertical coordinate is its second entry. -/
theorem vertical_at (p : FVec Ideal S147456x2 .f32) (i : Fin 147456) : vertical p (ix1 i) = p (ix2 i (1 : Fin 2)) := by
  pointwise [vertical]

/-- A point's horizontal coordinate is its first entry. -/
theorem horizontal_at (p : FVec Ideal S147456x2 .f32) (i : Fin 147456) : horizontal p (ix1 i) = p (ix2 i (0 : Fin 2)) := by
  pointwise [horizontal]

/-- The precondition says of each point and the next: the vertical coordinate grows, or it stays and the horizontal one
    does not fall. -/
theorem step_of_pre [Cert.Pre_row_major.Facts] (X : FVec Ideal S2x147456x96 .f32) (p : FVec Ideal S147456x2 .f32)
    (W : FVec Ideal S16x16x96x256 .f32) (B : FVec Ideal S256 .f32)
    (h : Cert.Pre_row_major.fn (F := Ideal) X p W B = fun _ => 1#1) (i : Fin 147455) :
    p (ix2 i.castSucc (1 : Fin 2)) < p (ix2 i.succ (1 : Fin 2))
      ∨ (p (ix2 i.castSucc (1 : Fin 2)) = p (ix2 i.succ (1 : Fin 2))
          ∧ p (ix2 i.castSucc (0 : Fin 2)) ≤ p (ix2 i.succ (0 : Fin 2))) := by
  haveI : Subsingleton Cert.Pre_row_major.S_.Idx := ⟨fun a b => funext fun k => Fin.elim0 k⟩
  have hi := Host.reduce_andi_all _ _ _ _ (fun k => Fin.elim0 k) (congrFun h (fun k => Fin.elim0 k)) (ix1 i)
  have hs : i.succ = (⟨1 + i.val, by omega⟩ : Fin 147456) := Fin.ext (Nat.add_comm _ _)
  have hc : i.castSucc = (⟨i.val, by omega⟩ : Fin 147456) := rfl
  rw [hs, hc]
  revert hi
  pointwise
  intro hi
  by_contra hn
  push Not at hn
  obtain ⟨h1, h2⟩ := hn
  by_cases e : p (ix2 (⟨i.val, by omega⟩ : Fin 147456) (1 : Fin 2)) = p (ix2 (⟨1 + i.val, by omega⟩ : Fin 147456) (1 : Fin 2))
  · simp [e, not_le.2 (h2 e), IntOp.ori, IntOp.andi] at hi
  · simp [e, not_lt.2 h1, IntOp.ori, IntOp.andi] at hi

/-- Under the precondition the sort of the points carries no position. -/
theorem order_of_pre [Cert.Pre_row_major.Facts] (X : FVec Ideal S2x147456x96 .f32) (p : FVec Ideal S147456x2 .f32)
    (W : FVec Ideal S16x16x96x256 .f32) (B : FVec Ideal S256 .f32)
    (h : Cert.Pre_row_major.fn (F := Ideal) X p W B = fun _ => 1#1) :
    order (vertical p) (horizontal p) = iotaInDim S147456 32 0 := by
  refine order_ordered _ _ fun i j hij => ?_
  rw [vertical_at, vertical_at, horizontal_at, horizontal_at]
  exact lex_of_step (n := 147455) (fun k => p (ix2 k (1 : Fin 2))) (fun k => p (ix2 k (0 : Fin 2)))
    (step_of_pre X p W B h) i j hij.le

end Cert.ReferenceIdeal.Sorted

end
-- ==== Proof.Result.lean ====
module

public import proofs.«01_k».proof.Proof.Patches
public import proofs.«01_k».proof.Proof.RowMajor
public import proofs.«01_k».proof.Proof.Gen.ReferenceIdeal.Run

@[expose] public section

set_option maxRecDepth 16384

noncomputable section

namespace Cert.ReferenceIdeal.Sorted

open Idealize.ShloMosaic Idealize.ShloMosaic.TcCoe Idealize.SL.Sem
open Cert.ReferenceIdeal Cert.ReferenceIdeal.Gen

/-- Sines, then cosines, of one coordinate of the patches (a table over rows and columns) times the 64 frequencies. -/
def waves (g : FVec Ideal S24x24 .f32) : FVec Ideal S576x128 .f32 :=
  let a : FVec Ideal S576x64 .f32 :=
    mulf (broadcastInDim S576x64 ![0, 1] bcast_S576x1_S576x64_0_1
        (broadcastInDim S576x1 ![0] bcast_S576_S576x1_0 (shapeCast S576 g shapeCasts_S24x24_S576)))
      (broadcastInDim S576x64 ![0, 1] bcast_S1x64_S576x64_0_1 (broadcastInDim S1x64 ![1] bcast_S64_S1x64_1
        (Host.divf (broadcastInDim S64 ![] bcast_S_S64 (constant S_ .f32 0x3F800000#32))
          (Host.powf (broadcastInDim S64 ![] bcast_S_S64 (constant S_ .f32 0x461C4000#32))
            (Host.divf (sitofp .f32 (iotaInDim S64 32 0)) (broadcastInDim S64 ![] bcast_S_S64 (constant S_ .f32 0x42800000#32)))))))
  concatenate S576x128 1 [⟨S576x64, Host.sin a⟩, ⟨S576x64, Host.cos a⟩] concatenates_S576x64_S576x64_S576x128_d1

/-- The position table: the waves of the patch's row, then those of its column. -/
def positions : FVec Ideal S576x256 .f32 :=
  concatenate S576x256 1
    [⟨S576x128, waves (broadcastInDim S24x24 ![0] bcast_S24_S24x24_0 (sitofp .f32 (iotaInDim S24 32 0)))⟩,
     ⟨S576x128, waves (broadcastInDim S24x24 ![1] bcast_S24_S24x24_1 (sitofp .f32 (iotaInDim S24 32 0)))⟩]
    concatenates_S576x128_S576x128_S576x256_d1

variable (m : (ℓ : Loc nD τ sig) → Buf (Elt Ideal) ℓ)

/-- The reference's result: the embedding of the images read in the order of the points. -/
theorem result_eq (c : Dev nD) :
    Cert.ReferenceIdeal.Value.res_main_v58 (F := Ideal) m c
      = embed
          (Host.gather gather_S2x147456x96_S147456x1_S2x147456x96_02_1_n_n_1_1_2196 (m ((c.tc : Thread nD τ).loc main_arg0))
            (column (order (vertical (m ((c.tc : Thread nD τ).loc main_arg1))) (horizontal (m ((c.tc : Thread nD τ).loc main_arg1))))))
          (m ((c.tc : Thread nD τ).loc main_arg2)) (m ((c.tc : Thread nD τ).loc main_arg3)) positions := by
  unfold Cert.ReferenceIdeal.Value.res_main_v58 embed
  refine congrArg₂ addf (congrArg (fun t => shapeCast S2x576x256 t _) (congrArg₂ addf ?_ ?_)) (congrArg _ (congrArg _ ?_))
  · refine congrArg (fun t => Host.dotGeneral patchDot none (shapeCast S2x24x16x24x16x96 (shapeCast S2x384x384x96 (Host.gather _ _ t) _) _) _) ?_
    unfold column order vertical horizontal
    with_reducible rfl
  · with_reducible rfl
  · unfold positions waves
    with_reducible rfl

end Cert.ReferenceIdeal.Sorted

end
-- ==== Proof.Rows.lean ====
module

public import proofs.«01_k».proof.Proof.Gen.KernelIdeal.Frame
public import Idealize.ShloMosaic.Lib.Pointwise

@[expose] public section

set_option maxRecDepth 16384

noncomputable section

namespace Cert.KernelIdeal.Rows

open Idealize.ShloMosaic Idealize.ShloMosaic.TcCoe Idealize.SL.Sem
open Cert.KernelIdeal Cert.KernelIdeal.Gen

variable {F : FTy → Type} [FloatOps F]

/-- The sixteen pixels of one patch in a pixel-major image row, as one slab: pixels `o … o + 15`. -/
abbrev slab (v : FVec F S384x96 .f32) (o : Nat) (h : S384x96.Slices ![o, 0] S16x96) : FVec F S1x16x96 .f32 :=
  shapeCast S1x16x96 (extractStridedSlice S16x96 ![o, 0] v h) shapeCasts_S16x96_S1x16x96

/-- One image row turned pixel-major. -/
abbrev pixels (xr : Vec F S1x96x384 .f32) : FVec F S384x96 .f32 :=
  transpose S384x96 [1, 0] (shapeCast S96x384 xr shapeCasts_S1x96x384_S96x384) transposes_S96x384_p1_0_S384x96

/-- One image row cut into its 24 patches of 16 pixels, each patch flattened pixel by pixel, channel by channel. -/
def patches (xr : Vec F S1x96x384 .f32) : FVec F S24x1536 .f32 :=
  shapeCast S24x1536 (concatenate S24x16x96 0 [⟨S1x16x96, slab (pixels xr) 0 slices_S384x96_o0_0_S16x96⟩,
      ⟨S1x16x96, slab (pixels xr) 16 slices_S384x96_o16_0_S16x96⟩,
      ⟨S1x16x96, slab (pixels xr) 32 slices_S384x96_o32_0_S16x96⟩,
      ⟨S1x16x96, slab (pixels xr) 48 slices_S384x96_o48_0_S16x96⟩,
      ⟨S1x16x96, slab (pixels xr) 64 slices_S384x96_o64_0_S16x96⟩,
      ⟨S1x16x96, slab (pixels xr) 80 slices_S384x96_o80_0_S16x96⟩,
      ⟨S1x16x96, slab (pixels xr) 96 slices_S384x96_o96_0_S16x96⟩,
      ⟨S1x16x96, slab (pixels xr) 112 slices_S384x96_o112_0_S16x96⟩,
      ⟨S1x16x96, slab (pixels xr) 128 slices_S384x96_o128_0_S16x96⟩,
      ⟨S1x16x96, slab (pixels xr) 144 slices_S384x96_o144_0_S16x96⟩,
      ⟨S1x16x96, slab (pixels xr) 160 slices_S384x96_o160_0_S16x96⟩,
      ⟨S1x16x96, slab (pixels xr) 176 slices_S384x96_o176_0_S16x96⟩,
      ⟨S1x16x96, slab (pixels xr) 192 slices_S384x96_o192_0_S16x96⟩,
      ⟨S1x16x96, slab (pixels xr) 208 slices_S384x96_o208_0_S16x96⟩,
      ⟨S1x16x96, slab (pixels xr) 224 slices_S384x96_o224_0_S16x96⟩,
      ⟨S1x16x96, slab (pixels xr) 240 slices_S384x96_o240_0_S16x96⟩,
      ⟨S1x16x96, slab (pixels xr) 256 slices_S384x96_o256_0_S16x96⟩,
      ⟨S1x16x96, slab (pixels xr) 272 slices_S384x96_o272_0_S16x96⟩,
      ⟨S1x16x96, slab (pixels xr) 288 slices_S384x96_o288_0_S16x96⟩,
      ⟨S1x16x96, slab (pixels xr) 304 slices_S384x96_o304_0_S16x96⟩,
      ⟨S1x16x96, slab (pixels xr) 320 slices_S384x96_o320_0_S16x96⟩,
      ⟨S1x16x96, slab (pixels xr) 336 slices_S384x96_o336_0_S16x96⟩,
      ⟨S1x16x96, slab (pixels xr) 352 slices_S384x96_o352_0_S16x96⟩,
      ⟨S1x16x96, slab (pixels xr) 368 slices_S384x96_o368_0_S16x96⟩]
      concatenates_S1x16x96_S1x16x96_S1x16x96_S1x16x96_S1x16x96_S1x16x96_S1x16x96_S1x16x96_S1x16x96_S1x16x96_S1x16x96_S1x16x96_S1x16x96_S1x16x96_S1x16x96_S1x16x96_S1x16x96_S1x16x96_S1x16x96_S1x16x96_S1x16x96_S1x16x96_S1x16x96_S1x16x96_S24x16x96_d0)
    shapeCasts_S24x16x96_S24x1536

/-- One row of the kernel's loop: the row's patches times the row's filter, added to what the earlier rows gave. -/
def step (acc : FVec F S24x256 .f32) (xr : Vec F S1x96x384 .f32) (wr : Vec F S1x1536x256 .f32) : FVec F S24x256 .f32 :=
  addf acc (matmul dot_S24x1536_S1536x256_S24x256_1_0_0_1_n_n none (patches xr)
    (shapeCast S1536x256 wr shapeCasts_S1x1536x256_S1536x256) (constant S24x256 .f32 0x00000000#32))

/-- Every patch of a row lies in the row. -/
theorem slices_patch : ∀ n : Fin 24, S384x96.Slices ![16 * n.val, 0] S16x96 := by decide

/-- A patch in the stack of a row's patches: entry `(p, s, c)` is pixel `16 p + s`, channel `c`. -/
theorem stack_at (xr : Vec F S1x96x384 .f32) (h) (p : Fin 24) (s : Fin 16) (c : Fin 96) :
    concatenate S24x16x96 0 (List.ofFn fun n : Fin 24 =>
        (⟨S1x16x96, slab (pixels xr) (16 * n.val) (slices_patch n)⟩ : (s : Shape) × (s.Idx → F .f32))) h (ix3 p s c)
      = xr (ix3 0 c ⟨16 * p.val + s.val, by omega⟩) := by
  pointwise

/-- The printed list of a row's 24 patches is the family of its patches. -/
theorem slabs_eq (xr : Vec F S1x96x384 .f32) :
    ([⟨S1x16x96, slab (pixels xr) 0 slices_S384x96_o0_0_S16x96⟩,
      ⟨S1x16x96, slab (pixels xr) 16 slices_S384x96_o16_0_S16x96⟩,
      ⟨S1x16x96, slab (pixels xr) 32 slices_S384x96_o32_0_S16x96⟩,
      ⟨S1x16x96, slab (pixels xr) 48 slices_S384x96_o48_0_S16x96⟩,
      ⟨S1x16x96, slab (pixels xr) 64 slices_S384x96_o64_0_S16x96⟩,
      ⟨S1x16x96, slab (pixels xr) 80 slices_S384x96_o80_0_S16x96⟩,
      ⟨S1x16x96, slab (pixels xr) 96 slices_S384x96_o96_0_S16x96⟩,
      ⟨S1x16x96, slab (pixels xr) 112 slices_S384x96_o112_0_S16x96⟩,
      ⟨S1x16x96, slab (pixels xr) 128 slices_S384x96_o128_0_S16x96⟩,
      ⟨S1x16x96, slab (pixels xr) 144 slices_S384x96_o144_0_S16x96⟩,
      ⟨S1x16x96, slab (pixels xr) 160 slices_S384x96_o160_0_S16x96⟩,
      ⟨S1x16x96, slab (pixels xr) 176 slices_S384x96_o176_0_S16x96⟩,
      ⟨S1x16x96, slab (pixels xr) 192 slices_S384x96_o192_0_S16x96⟩,
      ⟨S1x16x96, slab (pixels xr) 208 slices_S384x96_o208_0_S16x96⟩,
      ⟨S1x16x96, slab (pixels xr) 224 slices_S384x96_o224_0_S16x96⟩,
      ⟨S1x16x96, slab (pixels xr) 240 slices_S384x96_o240_0_S16x96⟩,
      ⟨S1x16x96, slab (pixels xr) 256 slices_S384x96_o256_0_S16x96⟩,
      ⟨S1x16x96, slab (pixels xr) 272 slices_S384x96_o272_0_S16x96⟩,
      ⟨S1x16x96, slab (pixels xr) 288 slices_S384x96_o288_0_S16x96⟩,
      ⟨S1x16x96, slab (pixels xr) 304 slices_S384x96_o304_0_S16x96⟩,
      ⟨S1x16x96, slab (pixels xr) 320 slices_S384x96_o320_0_S16x96⟩,
      ⟨S1x16x96, slab (pixels xr) 336 slices_S384x96_o336_0_S16x96⟩,
      ⟨S1x16x96, slab (pixels xr) 352 slices_S384x96_o352_0_S16x96⟩,
      ⟨S1x16x96, slab (pixels xr) 368 slices_S384x96_o368_0_S16x96⟩] :
        List ((s : Shape) × (s.Idx → F .f32)))
      = List.ofFn fun n : Fin 24 => ⟨S1x16x96, slab (pixels xr) (16 * n.val) (slices_patch n)⟩ := rfl

/-- Concatenations of equal lists are equal. -/
theorem concatenate_congr {α : Type} {t : Shape} {a : Fin t.rank} {xs ys : List ((s : Shape) × (s.Idx → α))} (e : xs = ys)
    (h : Shape.Concatenates (xs.map (·.1)) t a) :
    concatenate t a xs h = concatenate t a ys (e ▸ h) := by
  subst e; rfl

/-- Entry `(p, k)` of the cut row: pixel `16 p + k / 96`, channel `k % 96`. -/
theorem patches_at (xr : Vec F S1x96x384 .f32) (p : Fin 24) (k : Fin 1536) :
    patches xr (ix2 p k) = xr (ix3 0 ⟨k.val % 96, by omega⟩ ⟨16 * p.val + k.val / 96, by omega⟩) := by
  unfold patches
  rw [concatenate_congr (slabs_eq xr)]
  have e := stack_at xr (slabs_eq xr ▸ concatenates_S1x16x96_S1x16x96_S1x16x96_S1x16x96_S1x16x96_S1x16x96_S1x16x96_S1x16x96_S1x16x96_S1x16x96_S1x16x96_S1x16x96_S1x16x96_S1x16x96_S1x16x96_S1x16x96_S1x16x96_S1x16x96_S1x16x96_S1x16x96_S1x16x96_S1x16x96_S1x16x96_S1x16x96_S24x16x96_d0) p ⟨k.val / 96, by omega⟩ ⟨k.val % 96, by omega⟩
  revert e
  generalize concatenate S24x16x96 0 _ _ = v
  intro e
  rw [← e]
  pointwise

/-- One row at an entry, over the extended reals: the earlier rows' value plus the patch's 1536 products. -/
theorem step_at (acc : FVec Ideal S24x256 .f32) (xr : Vec Ideal S1x96x384 .f32) (wr : Vec Ideal S1x1536x256 .f32)
    (p : Fin 24) (e : Fin 256) :
    step acc xr wr (ix2 p e)
      = acc (ix2 p e) + ∑ k : Fin 1536, xr (ix3 0 ⟨k.val % 96, by omega⟩ ⟨16 * p.val + k.val / 96, by omega⟩) * wr (ix3 0 k e) := by
  pointwise [step, patches_at]

end Cert.KernelIdeal.Rows

end
-- ==== Proof.Strip.lean ====
module

public import proofs.«01_k».proof.Proof.Rows
public import Idealize.ShloMosaic.Lib.Pipeline.ValueKit

@[expose] public section

set_option maxRecDepth 16384

noncomputable section

namespace Cert.KernelIdeal.Rows

open Idealize.ShloMosaic Idealize.ShloMosaic.TcCoe Idealize.SL.Sem
open Cert.KernelIdeal Cert.KernelIdeal.Gen

variable {F : FTy → Type} [FloatOps F]

/-- The sixteen rows of one row of patches, one after the other, starting from `acc`. -/
def strip (acc : FVec F S24x256 .f32) (xr : Fin 16 → Vec F S1x96x384 .f32) (wr : Fin 16 → Vec F S1x1536x256 .f32) : FVec F S24x256 .f32 :=
  step (step (step (step (step (step (step (step (step (step (step (step (step (step (step (step acc (xr 0) (wr 0)) (xr 1) (wr 1)) (xr 2) (wr 2)) (xr 3) (wr 3)) (xr 4) (wr 4)) (xr 5) (wr 5)) (xr 6) (wr 6)) (xr 7) (wr 7)) (xr 8) (wr 8)) (xr 9) (wr 9)) (xr 10) (wr 10)) (xr 11) (wr 11)) (xr 12) (wr 12)) (xr 13) (wr 13)) (xr 14) (wr 14)) (xr 15) (wr 15)

/-- The sixteen rows at an entry, over the extended reals. -/
theorem strip_at (acc : FVec Ideal S24x256 .f32) (xr : Fin 16 → Vec Ideal S1x96x384 .f32) (wr : Fin 16 → Vec Ideal S1x1536x256 .f32)
    (p : Fin 24) (e : Fin 256) :
    strip acc xr wr (ix2 p e)
      = acc (ix2 p e) + ∑ r : Fin 16, ∑ k : Fin 1536,
          xr r (ix3 0 ⟨k.val % 96, by omega⟩ ⟨16 * p.val + k.val / 96, by omega⟩) * wr r (ix3 0 k e) := by
  simp only [strip, step_at]
  generalize hf : (fun r : Fin 16 => ∑ k : Fin 1536,
    xr r (ix3 0 ⟨k.val % 96, by omega⟩ ⟨16 * p.val + k.val / 96, by omega⟩) * wr r (ix3 0 k e)) = f
  have h : ∀ r : Fin 16, ∑ k : Fin 1536,
      xr r (ix3 0 ⟨k.val % 96, by omega⟩ ⟨16 * p.val + k.val / 96, by omega⟩) * wr r (ix3 0 k e) = f r := fun r => by rw [← hf]
  simp only [h]
  simp [Fin.sum_univ_succ, add_assoc]

/-- Where image row `r` of the strip `j` lies in the block. -/
theorem inb_row : ∀ (j : Fin 2) (r : Fin 16) (a : Fin 3), (![0, 0, 6144 * j.val + 384 * r.val] : Fin 3 → Nat) a + S1x96x384.size a ≤ S1x96x12288.size a := by
  decide

/-- Where the filter of row `r` lies in the reshaped weights. -/
theorem inb_filter : ∀ (r : Fin 16) (a : Fin 3), (![r.val, 0, 0] : Fin 3 → Nat) a + S1x1536x256.size a ≤ S16x1536x256.size a := by
  decide

/-- Where the strip `j` lies in the block of biases and positions. -/
theorem inb_start : ∀ (j : Fin 2) (a : Fin 3), (![j.val, 0, 0] : Fin 3 → Nat) a + S1x24x256.size a ≤ S2x24x256.size a := by
  decide

/-- What the body stores for the strip `j` of 24 patches. -/
def half (x0 : Vec F S1x96x12288 .f32) (x1 : Vec F S16x1536x256 .f32) (x2 : Vec F S2x24x256 .f32) (j : Fin 2) : FVec F S1x24x256 .f32 :=
  shapeCast S1x24x256
    (strip (shapeCast S24x256 (View.ld x2 (Rect.unit (s := S2x24x256) ![j.val, 0, 0] S1x24x256.size (inb_start j)) : Vec F S1x24x256 .f32) shapeCasts_S1x24x256_S24x256)
      (fun r => View.ld x0 (Rect.unit (s := S1x96x12288) ![0, 0, 6144 * j.val + 384 * r.val] S1x96x384.size (inb_row j r)))
      (fun r => View.ld x1 (Rect.unit (s := S16x1536x256) ![r.val, 0, 0] S1x1536x256.size (inb_filter r))))
    shapeCasts_S24x256_S1x24x256

/-- What the body leaves in the output block: two strips of 24 patches each. -/
theorem out_eq (x0 : Vec F S1x96x12288 .f32) (x1 : Vec F S16x1536x256 .f32) (x2 : Vec F S2x24x256 .f32) :
    out0_3 x0 x1 x2 = View.canon [⟨r0_51, half x0 x1 x2 1⟩, ⟨r0_33, half x0 x1 x2 0⟩] := rfl

/-- An image row of the block at an entry. -/
theorem ld_row (x0 : Vec Ideal S1x96x12288 .f32) (o : Nat)
    (h : ∀ a, (![0, 0, o] : Fin 3 → Nat) a + S1x96x384.size a ≤ S1x96x12288.size a) (c : Fin 96) (q : Fin 384) (ho : o + q.val < 12288) :
    View.ld x0 (Rect.unit (s := S1x96x12288) ![0, 0, o] S1x96x384.size h) (ix3 0 c q : S1x96x384.Idx) = x0 (ix3 0 c ⟨o + q.val, ho⟩) := by
  pointwise

/-- The filter of a row at an entry. -/
theorem ld_filter (x1 : Vec Ideal S16x1536x256 .f32) (r : Fin 16)
    (h : ∀ a, (![r.val, 0, 0] : Fin 3 → Nat) a + S1x1536x256.size a ≤ S16x1536x256.size a) (k : Fin 1536) (e : Fin 256) :
    View.ld x1 (Rect.unit (s := S16x1536x256) ![r.val, 0, 0] S1x1536x256.size h) (ix3 0 k e : S1x1536x256.Idx) = x1 (ix3 r k e) := by
  pointwise

/-- The starting values of a strip at an entry. -/
theorem ld_start (x2 : Vec Ideal S2x24x256 .f32) (j : Fin 2)
    (h : ∀ a, (![j.val, 0, 0] : Fin 3 → Nat) a + S1x24x256.size a ≤ S2x24x256.size a) (p : Fin 24) (e : Fin 256) :
    View.ld x2 (Rect.unit (s := S2x24x256) ![j.val, 0, 0] S1x24x256.size h) (ix3 0 p e : S1x24x256.Idx) = x2 (ix3 j p e) := by
  pointwise

/-- Dropping the unit axis of a strip. -/
theorem cast_down (v : FVec Ideal S1x24x256 .f32) (p : Fin 24) (e : Fin 256) :
    shapeCast S24x256 v shapeCasts_S1x24x256_S24x256 (ix2 p e) = v (ix3 0 p e) := by
  pointwise

/-- Restoring the unit axis of a strip. -/
theorem cast_up (v : FVec Ideal S24x256 .f32) (p : Fin 24) (e : Fin 256) :
    shapeCast S1x24x256 v shapeCasts_S24x256_S1x24x256 (ix3 0 p e) = v (ix2 p e) := by
  pointwise

/-- A strip at an entry, over the extended reals. -/
theorem half_at (x0 : Vec Ideal S1x96x12288 .f32) (x1 : Vec Ideal S16x1536x256 .f32) (x2 : Vec Ideal S2x24x256 .f32)
    (j : Fin 2) (p : Fin 24) (e : Fin 256) :
    half x0 x1 x2 j (ix3 0 p e)
      = x2 (ix3 j p e) + ∑ r : Fin 16, ∑ k : Fin 1536,
          x0 (ix3 0 ⟨k.val % 96, by omega⟩ ⟨6144 * j.val + 384 * r.val + (16 * p.val + k.val / 96), by omega⟩) * x1 (ix3 r k e) := by
  unfold half
  rw [cast_up, strip_at, cast_down, ld_start]
  refine congrArg _ (Finset.sum_congr rfl fun r _ => Finset.sum_congr rfl fun k _ => ?_)
  rw [ld_filter, ld_row _ _ _ _ _ (by simp only; omega)]

/-- What the body leaves in the output block, entry by entry. -/
theorem out_at (x0 : Vec Ideal S1x96x12288 .f32) (x1 : Vec Ideal S16x1536x256 .f32) (x2 : Vec Ideal S2x24x256 .f32)
    (j : Fin 2) (p : Fin 24) (e : Fin 256) :
    out0_3 x0 x1 x2 (ix3 0 ⟨24 * j.val + p.val, by omega⟩ e) = half x0 x1 x2 j (ix3 0 p e) := by
  rw [out_eq]
  canon_tiles x h
  · have h1' : 24 * j.val + p.val = 24 + (x 1).val := h1
    have h2' : e.val = (x 2).val := h2
    obtain rfl : j = 1 := Fin.ext (by simp; omega)
    refine congrArg _ ?_
    idx_ext
  · have h1' : 24 * j.val + p.val = (x 1).val := h1
    have h2' : e.val = (x 2).val := h2
    obtain rfl : j = 0 := Fin.ext (by simp; omega)
    refine congrArg _ ?_
    idx_ext

end Cert.KernelIdeal.Rows

end
-- ==== Proof.Block.lean ====
module

public import proofs.«01_k».proof.Proof.Strip

@[expose] public section

set_option maxRecDepth 16384

noncomputable section

namespace Cert.KernelIdeal.Rows

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The blocks of the windows: grid point `t` is the batch `t / 12` and the pair `t % 12` of rows of patches. -/
theorem idx_val : ∀ t : Fin cfg0.N, win0_0.index t = ![t.val / 12, 0, t.val % 12] ∧ win0_1.index t = ![0, 0, 0]
    ∧ win0_2.index t = ![t.val % 12, 0, 0] ∧ win0_3.index t = ![t.val / 12, t.val % 12, 0] ∧ t.val / 12 < 2 :=
  (by decide +kernel : ∀ t : Fin grid0.N, _)

/-- The convolution with its starting values, over the arrays as the kernel's region finds them. -/
def conv (X : FVec Ideal S2x96x147456 .f32) (Wt : FVec Ideal S16x1536x256 .f32) (P : FVec Ideal S24x24x256 .f32) : FVec Ideal S2x576x256 .f32 :=
  fun i => P (ix3 ⟨(i 1).val / 24, by have : (i 1).val < 576 := (i 1).isLt; omega⟩ ⟨(i 1).val % 24, by omega⟩ (i 2))
    + ∑ r : Fin 16, ∑ k : Fin 1536,
        X (ix3 (i 0) ⟨k.val % 96, by omega⟩
            ⟨6144 * ((i 1).val / 24) + 384 * r.val + (16 * ((i 1).val % 24) + k.val / 96), by have : (i 1).val < 576 := (i 1).isLt; omega⟩)
          * Wt (ix3 r k (i 2))

/-- What the body leaves at an entry of its block is the convolution at the entry's place in the array. -/
theorem point (c : Dev nD) (t : Fin cfg0.N) (y : S1x48x256.Idx) :
    out0_3 (iblk m c 0 t) (iblk m c 1 t) (iblk m c 2 t) y
      = conv (V m c main_v0) (V m c main_v1) (V m c main_v42) (((cfg0.win 3).blk t).view.emb y) := by
  obtain ⟨j, p, e, rfl⟩ : ∃ (j : Fin 2) (p : Fin 24) (e : Fin 256), y = ix3 0 ⟨24 * j.val + p.val, by omega⟩ e := by
    idx_vars y
    refine ⟨⟨y1.val / 24, by omega⟩, ⟨y1.val % 24, by omega⟩, y2, ?_⟩
    idx_ext
  rw [out_at, half_at]
  unfold conv
  blk_point [iblk, idx_val t]

/-- The result array after the run. -/
theorem final (c : Dev nD) : (dats m 0 c).arrAt 3 (cfgs 0).N = conv (V m c main_v0) (V m c main_v1) (V m c main_v42) := by
  refine (dats m 0 c).arrAt_eq_of_covers 3 _ (by decide +kernel) fun t _ y => ?_
  blk_simp
  rw [after0_3]
  exact point m c t y

end Cert.KernelIdeal.Rows

end
-- ==== Proof.Entry.lean ====
module

public import proofs.«01_k».proof.Proof.Block
public import Idealize.ShloMosaic.Lib.StableHlo.ReadAt

@[expose] public section

set_option maxRecDepth 16384

noncomputable section

namespace Cert.KernelIdeal.Rows

open Idealize.ShloMosaic Idealize.ShloMosaic.TcCoe Idealize.SL.Sem
open Cert.KernelIdeal Cert.KernelIdeal.Gen

/-- Sines, then cosines, of one coordinate of the patches (a table over rows and columns) times the 64 frequencies. -/
def waves (g : FVec Ideal S24x24 .f32) : FVec Ideal S576x128 .f32 :=
  let a : FVec Ideal S576x64 .f32 :=
    mulf (broadcastInDim S576x64 ![0, 1] bcast_S576x1_S576x64_0_1
        (broadcastInDim S576x1 ![0] bcast_S576_S576x1_0 (shapeCast S576 g shapeCasts_S24x24_S576)))
      (broadcastInDim S576x64 ![0, 1] bcast_S1x64_S576x64_0_1 (broadcastInDim S1x64 ![1] bcast_S64_S1x64_1
        (Host.divf (broadcastInDim S64 ![] bcast_S_S64 (constant S_ .f32 0x3F800000#32))
          (Host.powf (broadcastInDim S64 ![] bcast_S_S64 (constant S_ .f32 0x461C4000#32))
            (Host.divf (sitofp .f32 (iotaInDim S64 32 0)) (broadcastInDim S64 ![] bcast_S_S64 (constant S_ .f32 0x42800000#32)))))))
  concatenate S576x128 1 [⟨S576x64, Host.sin a⟩, ⟨S576x64, Host.cos a⟩] concatenates_S576x64_S576x64_S576x128_d1

/-- The position table: the waves of the patch's row, then those of its column. -/
def positions : FVec Ideal S576x256 .f32 :=
  concatenate S576x256 1
    [⟨S576x128, waves (broadcastInDim S24x24 ![0] bcast_S24_S24x24_0 (sitofp .f32 (iotaInDim S24 32 0)))⟩,
     ⟨S576x128, waves (broadcastInDim S24x24 ![1] bcast_S24_S24x24_1 (sitofp .f32 (iotaInDim S24 32 0)))⟩]
    concatenates_S576x128_S576x128_S576x256_d1

variable (m : (ℓ : Loc nD τ sig) → Buf (Elt Ideal) ℓ)

/-- The images as the region finds them: channel-major. -/
theorem V_images (c : Dev nD) :
    V m c main_v0 = transpose S2x96x147456 [0, 2, 1] (m ((c : Thread nD τ).loc main_arg0)) transposes_S2x147456x96_S2x96x147456_0_2_1 := by
  entry_read
  rfl

/-- The weights as the region finds them: one filter matrix per row. -/
theorem V_weights (c : Dev nD) :
    V m c main_v1 = shapeCast S16x1536x256 (m ((c : Thread nD τ).loc main_arg2)) shapeCasts_S16x16x96x256_S16x1536x256 := by
  entry_read
  rfl

/-- The starting values as the region finds them: bias plus position, a row of patches at a time. -/
theorem V_start (c : Dev nD) :
    V m c main_v42 = shapeCast S24x24x256 (addf (broadcastInDim S576x256 ![0, 1] bcast_S1x256_S576x256_0_1
        (broadcastInDim S1x256 ![1] bcast_S256_S1x256_1 (m ((c : Thread nD τ).loc main_arg3)))) positions) shapeCasts_S576x256_S24x24x256 := by
  entry_read
  rfl

/-- The channel-major images at an entry. -/
theorem images_at (X : FVec Ideal S2x147456x96 .f32) (b : Fin 2) (c : Fin 96) (n : Fin 147456) :
    transpose S2x96x147456 [0, 2, 1] X transposes_S2x147456x96_S2x96x147456_0_2_1 (ix3 b c n) = X (ix3 b n c) := by
  pointwise

/-- The filter matrices at an entry. -/
theorem weights_at (W : FVec Ideal S16x16x96x256 .f32) (r : Fin 16) (k : Fin 1536) (e : Fin 256) :
    shapeCast S16x1536x256 W shapeCasts_S16x16x96x256_S16x1536x256 (ix3 r k e)
      = W (ix4 r ⟨k.val / 96, by omega⟩ ⟨k.val % 96, by omega⟩ e) := by
  pointwise

/-- The starting values at an entry. -/
theorem start_at (B : FVec Ideal S256 .f32) (P : FVec Ideal S576x256 .f32) (y : Fin 576) (e : Fin 256) :
    shapeCast S24x24x256 (addf (broadcastInDim S576x256 ![0, 1] bcast_S1x256_S576x256_0_1
        (broadcastInDim S1x256 ![1] bcast_S256_S1x256_1 B)) P) shapeCasts_S576x256_S24x24x256
        (ix3 ⟨y.val / 24, by omega⟩ ⟨y.val % 24, by omega⟩ e)
      = B (ix1 e) + P (ix2 y e) := by
  pointwise

/-- The kernel's result at an entry: bias plus position, plus the patch's products with the filter. -/
theorem conv_at (X : FVec Ideal S2x147456x96 .f32) (W : FVec Ideal S16x16x96x256 .f32) (B : FVec Ideal S256 .f32) (P : FVec Ideal S576x256 .f32)
    (b : Fin 2) (y : Fin 576) (e : Fin 256) :
    conv (transpose S2x96x147456 [0, 2, 1] X transposes_S2x147456x96_S2x96x147456_0_2_1)
        (shapeCast S16x1536x256 W shapeCasts_S16x16x96x256_S16x1536x256)
        (shapeCast S24x24x256 (addf (broadcastInDim S576x256 ![0, 1] bcast_S1x256_S576x256_0_1
          (broadcastInDim S1x256 ![1] bcast_S256_S1x256_1 B)) P) shapeCasts_S576x256_S24x24x256) (ix3 b y e)
      = (B (ix1 e) + P (ix2 y e)) + ∑ r : Fin 16, ∑ k : Fin 1536,
          X (ix3 b ⟨6144 * (y.val / 24) + 384 * r.val + (16 * (y.val % 24) + k.val / 96), by omega⟩ ⟨k.val % 96, by omega⟩)
            * W (ix4 r ⟨k.val / 96, by omega⟩ ⟨k.val % 96, by omega⟩ e) := by
  refine congrArg₂ (· + ·) (start_at B P y e) (Finset.sum_congr rfl fun r _ => Finset.sum_congr rfl fun k _ => ?_)
  exact congrArg₂ (· * ·) (images_at X b _ _) (weights_at W r k e)

end Cert.KernelIdeal.Rows

end
-- ==== Proof.Equation.lean ====
module

public import proofs.«01_k».proof.Proof.Result
public import proofs.«01_k».proof.Proof.Entry

@[expose] public section

set_option maxRecDepth 16384

noncomputable section

namespace Cert.Proof

open Idealize.ShloMosaic Idealize.ShloMosaic.TcCoe Idealize.SL.Sem
open Cert.KernelIdeal Cert.KernelIdeal.Gen Cert.KernelIdeal.Rows

/-- The two programs build one position table. -/
theorem positions_eq : Cert.ReferenceIdeal.Sorted.positions = Cert.KernelIdeal.Rows.positions := by
  rfl

/-- On points in row-major order the reference's result is the kernel's: the sort carries nothing, and both sum the
    products of a patch with the filter, the bias and the position. -/
theorem result_eq_conv [Cert.Pre_row_major.Facts] (X : FVec Ideal S2x147456x96 .f32) (p : FVec Ideal S147456x2 .f32)
    (W : FVec Ideal S16x16x96x256 .f32) (B : FVec Ideal S256 .f32)
    (h : Cert.Pre_row_major.fn (F := Ideal) X p W B = fun _ => 1#1) :
    Cert.ReferenceIdeal.Sorted.embed
        (Host.gather Cert.ReferenceIdeal.gather_S2x147456x96_S147456x1_S2x147456x96_02_1_n_n_1_1_2196 X
          (Cert.ReferenceIdeal.Sorted.column (Cert.ReferenceIdeal.Sorted.order
            (Cert.ReferenceIdeal.Sorted.vertical p) (Cert.ReferenceIdeal.Sorted.horizontal p))))
        W B Cert.ReferenceIdeal.Sorted.positions
      = conv (transpose S2x96x147456 [0, 2, 1] X transposes_S2x147456x96_S2x96x147456_0_2_1)
          (shapeCast S16x1536x256 W shapeCasts_S16x16x96x256_S16x1536x256)
          (shapeCast S24x24x256 (addf (broadcastInDim S576x256 ![0, 1] bcast_S1x256_S576x256_0_1
            (broadcastInDim S1x256 ![1] bcast_S256_S1x256_1 B)) positions) shapeCasts_S576x256_S24x24x256) := by
  rw [Cert.ReferenceIdeal.Sorted.order_of_pre X p W B h, Cert.ReferenceIdeal.Sorted.gather_iota, positions_eq]
  funext i
  rw [eq_ix3 i]
  exact (Cert.ReferenceIdeal.Sorted.embed_at X W B _ (i 0) (i 1) (i 2)).trans (conv_at X W B _ (i 0) (i 1) (i 2)).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The precondition's shape relations hold. -/
instance : Cert.Pre_row_major.Facts := Cert.ReferenceIdeal.Sorted.preFacts

/-- The reference's frame: its run leaves the arguments as they were, and it declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun r h => ⟨fun c => (h c).2, sem_eq_zero_of_no_sems rfl r.2⟩)
    (Cert.ReferenceIdeal.Value.run (F := Ideal) m g)

/-- Every claim: the frames, the idealisation, and equal results on points in row-major order. -/
theorem claim : Cert.Claim := by
  refine ⟨Cert.Kernel.Gen.facts, Cert.KernelIdeal.Gen.facts, Cert.ReferenceIdeal.Gen.facts,
    Cert.ReferenceIdeal.Sorted.preFacts, ?_, ?_, ?_, ?_, ?_, ?_, ?_⟩
  · exact fun m g _ => Cert.Kernel.Gen.frame m g
  · exact fun m g _ => Cert.KernelIdeal.Gen.frame m g
  · exact fun m g _ => Cert.KernelIdeal.Gen.frame m g
  · exact fun m g _ => reference_frame m g
  · exact fun m g _ => reference_frame m g
  · trivial
  · pair_intro
    · run_from Cert.KernelIdeal.Gen.run_main m g
    · run_from Cert.ReferenceIdeal.Value.run m' g'
      obtain ⟨h0, h1, h2, h3⟩ := hagree c
      rw [Cert.ReferenceIdeal.Sorted.result_eq, h0, h1, h2, h3, Cert.KernelIdeal.Rows.final,
        Cert.KernelIdeal.Rows.V_images, Cert.KernelIdeal.Rows.V_weights, Cert.KernelIdeal.Rows.V_start]
      exact result_eq_conv _ _ _ _ (hpre c)

end Cert.Proof

end
